-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024x8 : Shape := ⟨2, ![1024, 8]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S2048x1024 : Shape := ⟨2, ![2048, 1024]⟩
abbrev S1x8 : Shape := ⟨2, ![1, 8]⟩
abbrev S8x1x4096 : Shape := ⟨3, ![8, 1, 4096]⟩
abbrev S8x1x1024 : Shape := ⟨3, ![8, 1, 1024]⟩
abbrev S1x1024x512 : Shape := ⟨3, ![1, 1024, 512]⟩
abbrev S1x1x512 : Shape := ⟨3, ![1, 1, 512]⟩
abbrev S1x512x1024 : Shape := ⟨3, ![1, 512, 1024]⟩
abbrev S1x1x1024 : Shape := ⟨3, ![1, 1, 1024]⟩
abbrev S2048x8 : Shape := ⟨2, ![2048, 8]⟩
abbrev S2048 : Shape := ⟨1, ![2048]⟩
abbrev S2048x1 : Shape := ⟨2, ![2048, 1]⟩
abbrev S1024x512 : Shape := ⟨2, ![1024, 512]⟩
abbrev S2048x512 : Shape := ⟨2, ![2048, 512]⟩
abbrev S1x512 : Shape := ⟨2, ![1, 512]⟩
abbrev S512x1024 : Shape := ⟨2, ![512, 1024]⟩
abbrev S1x1024 : Shape := ⟨2, ![1, 1024]⟩

abbrev nBuf : Space → Nat
  | .hbm => 13
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8, .f32⟩
  | .hbm, ⟨3, _⟩ => ⟨S8x1024x4096, .f32⟩
  | .hbm, ⟨4, _⟩ => ⟨S8x4096, .f32⟩
  | .hbm, ⟨5, _⟩ => ⟨S8x4096x1024, .f32⟩
  | .hbm, ⟨6, _⟩ => ⟨S8x1024, .f32⟩
  | .hbm, ⟨7, _⟩ => ⟨S2048x1024, .f32⟩
  | .hbm, ⟨8, _⟩ => ⟨S1x8, .f32⟩
  | .hbm, ⟨9, _⟩ => ⟨S8x1x4096, .f32⟩
  | .hbm, ⟨10, _⟩ => ⟨S8x1x1024, .f32⟩
  | .hbm, ⟨11, _⟩ => ⟨S2048x1024, .f32⟩
  | .hbm, ⟨12, _⟩ => ⟨S1x2048x1024, .f32⟩
  | .local _ .vmem, ⟨0, _⟩ => ⟨S2048x1024, .f32⟩
  | .local _ .vmem, ⟨1, _⟩ => ⟨S1024x8, .f32⟩
  | .local _ .vmem, ⟨2, _⟩ => ⟨S1x8, .f32⟩
  | .local _ .vmem, ⟨3, _⟩ => ⟨S1x1024x512, .f32⟩
  | .local _ .vmem, ⟨4, _⟩ => ⟨S1x1024x512, .f32⟩
  | .local _ .vmem, ⟨5, _⟩ => ⟨S1x1x512, .f32⟩
  | .local _ .vmem, ⟨6, _⟩ => ⟨S1x1x512, .f32⟩
  | .local _ .vmem, ⟨7, _⟩ => ⟨S1x512x1024, .f32⟩
  | .local _ .vmem, ⟨8, _⟩ => ⟨S1x512x1024, .f32⟩
  | .local _ .vmem, ⟨9, _⟩ => ⟨S1x1x1024, .f32⟩
  | .local _ .vmem, ⟨10, _⟩ => ⟨S1x1x1024, .f32⟩
  | .local _ .vmem, ⟨11, _⟩ => ⟨S2048x1024, .f32⟩
  | .local _ .vmem, ⟨12, _⟩ => ⟨S2048x8, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c0_i32_22 : BitVec 32 := 0#32
  let v39 : BitVec 1 := Scalar.cmpi .eq arg0 c0_i32_22
  let arg1 : BitVec 32 := BitVec.ofNat 32 (i 1).val
  let c0_i32_23 : BitVec 32 := 0#32
  let v40 : BitVec 1 := Scalar.cmpi .eq arg1 c0_i32_23
  let v41 : BitVec 1 := Scalar.andi v39 v40
  let v42 : BitVec 32 := Scalar.extui v41
  let c0_i32_24 : BitVec 32 := 0#32
  let v43 : BitVec 1 := Scalar.cmpi .ne v42 c0_i32_24
  v43

def k0_cond3 (i : grid0.Coords) : BitVec 1 :=
  let arg0 : BitVec 32 := BitVec.ofNat 32 (i 0).val
  let c0_i32_25 : BitVec 32 := 0#32
  let v44 : BitVec 1 := Scalar.cmpi .eq arg0 c0_i32_25
  let arg1 : BitVec 32 := BitVec.ofNat 32 (i 1).val
  let c0_i32_26 : BitVec 32 := 0#32
  let v45 : BitVec 1 := Scalar.cmpi .eq arg1 c0_i32_26
  let v46 : BitVec 1 := Scalar.andi v44 v45
  let v_true : BitVec 1 := 1#1
  let v47 : BitVec 1 := Scalar.xori v46 v_true
  let v48 : BitVec 32 := Scalar.extui v47
  let c0_i32_27 : BitVec 32 := 0#32
  let v49 : BitVec 1 := Scalar.cmpi .ne v48 c0_i32_27
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S1x2048x1024 : Shape := ⟨3, ![1, 2048, 1024]⟩
abbrev S1024x8 : Shape := ⟨2, ![1024, 8]⟩
abbrev S8 : Shape := ⟨1, ![8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S1x2048x8 : Shape := ⟨3, ![1, 2048, 8]⟩
abbrev S1x1x8 : Shape := ⟨3, ![1, 1, 8]⟩
abbrev S_ : Shape := ⟨0, ![]⟩
abbrev S1x2048 : Shape := ⟨2, ![1, 2048]⟩
abbrev S1x2048x1 : Shape := ⟨3, ![1, 2048, 1]⟩
abbrev S1x2048x2 : Shape := ⟨3, ![1, 2048, 2]⟩
abbrev S2048x1024 : Shape := ⟨2, ![2048, 1024]⟩
abbrev S2048x2 : Shape := ⟨2, ![2048, 2]⟩
abbrev S2048x2x1 : Shape := ⟨3, ![2048, 2, 1]⟩
abbrev S2048x2x8 : Shape := ⟨3, ![2048, 2, 8]⟩
abbrev S2048x8 : Shape := ⟨2, ![2048, 8]⟩
abbrev S1x1024x4096 : Shape := ⟨3, ![1, 1024, 4096]⟩
abbrev S1024x4096 : Shape := ⟨2, ![1024, 4096]⟩
abbrev S2048x4096 : Shape := ⟨2, ![2048, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S2048x1 : Shape := ⟨2, ![2048, 1]⟩

abbrev nBuf : Space → Nat
  | .hbm => 233
  | .vmem => 0
  | .smem => 0
  | _ => 0

abbrev hbmTy0_0 (i : Nat) : BufTy := match i % 128 with
  | 0 => ⟨S1x2048x1024, .f32⟩
  | 1 => ⟨S1024x8, .f32⟩
  | 2 => ⟨S8, .f32⟩
  | 3 => ⟨S8x1024x4096, .f32⟩
  | 4 => ⟨S8x4096, .f32⟩
  | 5 => ⟨S8x4096x1024, .f32⟩
  | 6 => ⟨S8x1024, .f32⟩
  | 7 => ⟨S1x2048x8, .f32⟩
  | 8 => ⟨S1x1x8, .f32⟩
  | 9 => ⟨S1x2048x8, .f32⟩
  | 10 => ⟨S1x2048x8, .f32⟩
  | 11 => ⟨S_, .f32⟩
  | 12 => ⟨S1x2048, .f32⟩
  | 13 => ⟨S_, .f32⟩
  | 14 => ⟨S1x2048, .f32⟩
  | 15 => ⟨S1x2048, .f32⟩
  | 16 => ⟨S1x2048x1, .f32⟩
  | 17 => ⟨S1x2048x8, .f32⟩
  | 18 => ⟨S1x2048x8, .f32⟩
  | 19 => ⟨S1x2048x8, .f32⟩
  | 20 => ⟨S_, .f32⟩
  | 21 => ⟨S1x2048, .f32⟩
  | 22 => ⟨S1x2048x1, .f32⟩
  | 23 => ⟨S1x2048x8, .f32⟩
  | 24 => ⟨S1x2048x8, .f32⟩
  | 25 => ⟨S1x2048x2, .f32⟩
  | 26 => ⟨S1x2048x2, .i32⟩
  | 27 => ⟨S_, .f32⟩
  | 28 => ⟨S1x2048, .f32⟩
  | 29 => ⟨S1x2048x1, .f32⟩
  | 30 => ⟨S1x2048x2, .f32⟩
  | 31 => ⟨S1x2048x2, .f32⟩
  | 32 => ⟨S2048x1024, .f32⟩
  | 33 => ⟨S2048x2, .i32⟩
  | 34 => ⟨S2048x2, .f32⟩
  | 35 => ⟨S2048x2x1, .i32⟩
  | 36 => ⟨S1x1x8, .i32⟩
  | 37 => ⟨S2048x2x8, .i32⟩
  | 38 => ⟨S2048x2x8, .i32⟩
  | 39 => ⟨S2048x2x8, .i1⟩
  | 40 => ⟨S2048x2x8, .f32⟩
  | 41 => ⟨S2048x2x1, .f32⟩
  | 42 => ⟨S2048x2x8, .f32⟩
  | 43 => ⟨S2048x2x8, .f32⟩
  | 44 => ⟨S_, .f32⟩
  | 45 => ⟨S2048x8, .f32⟩
  | 46 => ⟨S_, .f32⟩
  | 47 => ⟨S2048x1024, .f32⟩
  | 48 => ⟨S1x1024x4096, .f32⟩
  | 49 => ⟨S1024x4096, .f32⟩
  | 50 => ⟨S2048x4096, .f32⟩
  | 51 => ⟨S1x4096, .f32⟩
  | 52 => ⟨S4096, .f32⟩
  | 53 => ⟨S1x4096, .f32⟩
  | 54 => ⟨S2048x4096, .f32⟩
  | 55 => ⟨S2048x4096, .f32⟩
  | 56 => ⟨S_, .f32⟩
  | 57 => ⟨S2048x4096, .f32⟩
  | 58 => ⟨S2048x4096, .f32⟩
  | 59 => ⟨S1x4096x1024, .f32⟩
  | 60 => ⟨S4096x1024, .f32⟩
  | 61 => ⟨S2048x1024, .f32⟩
  | 62 => ⟨S1x1024, .f32⟩
  | 63 => ⟨S1024, .f32⟩
  | 64 => ⟨S1x1024, .f32⟩
  | 65 => ⟨S2048x1024, .f32⟩
  | 66 => ⟨S2048x1024, .f32⟩
  | 67 => ⟨S2048x1, .f32⟩
  | 68 => ⟨S2048x1024, .f32⟩
  | 69 => ⟨S2048x1024, .f32⟩
  | 70 => ⟨S2048x1024, .f32⟩
  | 71 => ⟨S1x1024x4096, .f32⟩
  | 72 => ⟨S1024x4096, .f32⟩
  | 73 => ⟨S2048x4096, .f32⟩
  | 74 => ⟨S1x4096, .f32⟩
  | 75 => ⟨S4096, .f32⟩
  | 76 => ⟨S1x4096, .f32⟩
  | 77 => ⟨S2048x4096, .f32⟩
  | 78 => ⟨S2048x4096, .f32⟩
  | 79 => ⟨S_, .f32⟩
  | 80 => ⟨S2048x4096, .f32⟩
  | 81 => ⟨S2048x4096, .f32⟩
  | 82 => ⟨S1x4096x1024, .f32⟩
  | 83 => ⟨S4096x1024, .f32⟩
  | 84 => ⟨S2048x1024, .f32⟩
  | 85 => ⟨S1x1024, .f32⟩
  | 86 => ⟨S1024, .f32⟩
  | 87 => ⟨S1x1024, .f32⟩
  | 88 => ⟨S2048x1024, .f32⟩
  | 89 => ⟨S2048x1024, .f32⟩
  | 90 => ⟨S2048x1, .f32⟩
  | 91 => ⟨S2048x1024, .f32⟩
  | 92 => ⟨S2048x1024, .f32⟩
  | 93 => ⟨S2048x1024, .f32⟩
  | 94 => ⟨S1x1024x4096, .f32⟩
  | 95 => ⟨S1024x4096, .f32⟩
  | 96 => ⟨S2048x4096, .f32⟩
  | 97 => ⟨S1x4096, .f32⟩
  | 98 => ⟨S4096, .f32⟩
  | 99 => ⟨S1x4096, .f32⟩
  | 100 => ⟨S2048x4096, .f32⟩
  | 101 => ⟨S2048x4096, .f32⟩
  | 102 => ⟨S_, .f32⟩
  | 103 => ⟨S2048x4096, .f32⟩
  | 104 => ⟨S2048x4096, .f32⟩
  | 105 => ⟨S1x4096x1024, .f32⟩
  | 106 => ⟨S4096x1024, .f32⟩
  | 107 => ⟨S2048x1024, .f32⟩
  | 108 => ⟨S1x1024, .f32⟩
  | 109 => ⟨S1024, .f32⟩
  | 110 => ⟨S1x1024, .f32⟩
  | 111 => ⟨S2048x1024, .f32⟩
  | 112 => ⟨S2048x1024, .f32⟩
  | 113 => ⟨S2048x1, .f32⟩
  | 114 => ⟨S2048x1024, .f32⟩
  | 115 => ⟨S2048x1024, .f32⟩
  | 116 => ⟨S2048x1024, .f32⟩
  | 117 => ⟨S1x1024x4096, .f32⟩
  | 118 => ⟨S1024x4096, .f32⟩
  | 119 => ⟨S2048x4096, .f32⟩
  | 120 => ⟨S1x4096, .f32⟩
  | 121 => ⟨S4096, .f32⟩
  | 122 => ⟨S1x4096, .f32⟩
  | 123 => ⟨S2048x4096, .f32⟩
  | 124 => ⟨S2048x4096, .f32⟩
  | 125 => ⟨S_, .f32⟩
  | 126 => ⟨S2048x4096, .f32⟩
  | 127 => ⟨S2048x4096, .f32⟩
  | _ => ⟨S1x2048x1024, .f32⟩

abbrev hbmTy0_1 (i : Nat) : BufTy := match i % 128 with
  | 0 => ⟨S1x4096x1024, .f32⟩
  | 1 => ⟨S4096x1024, .f32⟩
  | 2 => ⟨S2048x1024, .f32⟩
  | 3 => ⟨S1x1024, .f32⟩
  | 4 => ⟨S1024, .f32⟩
  | 5 => ⟨S1x1024, .f32⟩
  | 6 => ⟨S2048x1024, .f32⟩
  | 7 => ⟨S2048x1024, .f32⟩
  | 8 => ⟨S2048x1, .f32⟩
  | 9 => ⟨S2048x1024, .f32⟩
  | 10 => ⟨S2048x1024, .f32⟩
  | 11 => ⟨S2048x1024, .f32⟩
  | 12 => ⟨S1x1024x4096, .f32⟩
  | 13 => ⟨S1024x4096, .f32⟩
  | 14 => ⟨S2048x4096, .f32⟩
  | 15 => ⟨S1x4096, .f32⟩
  | 16 => ⟨S4096, .f32⟩
  | 17 => ⟨S1x4096, .f32⟩
  | 18 => ⟨S2048x4096, .f32⟩
  | 19 => ⟨S2048x4096, .f32⟩
  | 20 => ⟨S_, .f32⟩
  | 21 => ⟨S2048x4096, .f32⟩
  | 22 => ⟨S2048x4096, .f32⟩
  | 23 => ⟨S1x4096x1024, .f32⟩
  | 24 => ⟨S4096x1024, .f32⟩
  | 25 => ⟨S2048x1024, .f32⟩
  | 26 => ⟨S1x1024, .f32⟩
  | 27 => ⟨S1024, .f32⟩
  | 28 => ⟨S1x1024, .f32⟩
  | 29 => ⟨S2048x1024, .f32⟩
  | 30 => ⟨S2048x1024, .f32⟩
  | 31 => ⟨S2048x1, .f32⟩
  | 32 => ⟨S2048x1024, .f32⟩
  | 33 => ⟨S2048x1024, .f32⟩
  | 34 => ⟨S2048x1024, .f32⟩
  | 35 => ⟨S1x1024x4096, .f32⟩
  | 36 => ⟨S1024x4096, .f32⟩
  | 37 => ⟨S2048x4096, .f32⟩
  | 38 => ⟨S1x4096, .f32⟩
  | 39 => ⟨S4096, .f32⟩
  | 40 => ⟨S1x4096, .f32⟩
  | 41 => ⟨S2048x4096, .f32⟩
  | 42 => ⟨S2048x4096, .f32⟩
  | 43 => ⟨S_, .f32⟩
  | 44 => ⟨S2048x4096, .f32⟩
  | 45 => ⟨S2048x4096, .f32⟩
  | 46 => ⟨S1x4096x1024, .f32⟩
  | 47 => ⟨S4096x1024, .f32⟩
  | 48 => ⟨S2048x1024, .f32⟩
  | 49 => ⟨S1x1024, .f32⟩
  | 50 => ⟨S1024, .f32⟩
  | 51 => ⟨S1x1024, .f32⟩
  | 52 => ⟨S2048x1024, .f32⟩
  | 53 => ⟨S2048x1024, .f32⟩
  | 54 => ⟨S2048x1, .f32⟩
  | 55 => ⟨S2048x1024, .f32⟩
  | 56 => ⟨S2048x1024, .f32⟩
  | 57 => ⟨S2048x1024, .f32⟩
  | 58 => ⟨S1x1024x4096, .f32⟩
  | 59 => ⟨S1024x4096, .f32⟩
  | 60 => ⟨S2048x4096, .f32⟩
  | 61 => ⟨S1x4096, .f32⟩
  | 62 => ⟨S4096, .f32⟩
  | 63 => ⟨S1x4096, .f32⟩
  | 64 => ⟨S2048x4096, .f32⟩
  | 65 => ⟨S2048x4096, .f32⟩
  | 66 => ⟨S_, .f32⟩
  | 67 => ⟨S2048x4096, .f32⟩
  | 68 => ⟨S2048x4096, .f32⟩
  | 69 => ⟨S1x4096x1024, .f32⟩
  | 70 => ⟨S4096x1024, .f32⟩
  | 71 => ⟨S2048x1024, .f32⟩
  | 72 => ⟨S1x1024, .f32⟩
  | 73 => ⟨S1024, .f32⟩
  | 74 => ⟨S1x1024, .f32⟩
  | 75 => ⟨S2048x1024, .f32⟩
  | 76 => ⟨S2048x1024, .f32⟩
  | 77 => ⟨S2048x1, .f32⟩
  | 78 => ⟨S2048x1024, .f32⟩
  | 79 => ⟨S2048x1024, .f32⟩
  | 80 => ⟨S2048x1024, .f32⟩
  | 81 => ⟨S1x1024x4096, .f32⟩
  | 82 => ⟨S1024x4096, .f32⟩
  | 83 => ⟨S2048x4096, .f32⟩
  | 84 => ⟨S1x4096, .f32⟩
  | 85 => ⟨S4096, .f32⟩
  | 86 => ⟨S1x4096, .f32⟩
  | 87 => ⟨S2048x4096, .f32⟩
  | 88 => ⟨S2048x4096, .f32⟩
  | 89 => ⟨S_, .f32⟩
  | 90 => ⟨S2048x4096, .f32⟩
  | 91 => ⟨S2048x4096, .f32⟩
  | 92 => ⟨S1x4096x1024, .f32⟩
  | 93 => ⟨S4096x1024, .f32⟩
  | 94 => ⟨S2048x1024, .f32⟩
  | 95 => ⟨S1x1024, .f32⟩
  | 96 => ⟨S1024, .f32⟩
  | 97 => ⟨S1x1024, .f32⟩
  | 98 => ⟨S2048x1024, .f32⟩
  | 99 => ⟨S2048x1024, .f32⟩
  | 100 => ⟨S2048x1, .f32⟩
  | 101 => ⟨S2048x1024, .f32⟩
  | 102 => ⟨S2048x1024, .f32⟩
  | 103 => ⟨S2048x1024, .f32⟩
  | 104 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_values : Ref sig .tc := ⟨.hbm, 25, rfl⟩
abbrev main_indices : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_cst : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call2_cst : Ref sig .tc := ⟨.hbm, 79, rfl⟩
abbrev main_call2_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call3_cst : Ref sig .tc := ⟨.hbm, 102, rfl⟩
abbrev main_call3_v0 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_call4_cst : Ref sig .tc := ⟨.hbm, 125, rfl⟩
abbrev main_call4_v0 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_call5_cst : Ref sig .tc := ⟨.hbm, 148, rfl⟩
abbrev main_call5_v0 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_call6_cst : Ref sig .tc := ⟨.hbm, 171, rfl⟩
abbrev main_call6_v0 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_call7_cst : Ref sig .tc := ⟨.hbm, 194, rfl⟩
abbrev main_call7_v0 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_call8_cst : Ref sig .tc := ⟨.hbm, 217, rfl⟩
abbrev main_call8_v0 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩

abbrev nD : Nat := 1
abbrev τ : Topo := Topo.v7x

variable {F : FTy → Type} [FloatOps F]
-- ==== Proof.Stages.lean ====
/-
  What the kernel leaves in memory, read as values. At the first grid point the body computes the routing weights into
  its scratch buffer and stores the first contribution into the output block; at every later point it adds that point's
  contribution to the output block and leaves the scratch buffer alone. The output block is the whole result array and
  is written back once, after the last point.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Moe

open Cert.KernelIdeal Cert.KernelIdeal.Gen Idealize.ShloMosaic Idealize.ShloMosaic.TcCoe Idealize.SL.Sem
open Idealize.ShloMosaic.Pipeline (Dat)

variable {F : FTy → Type} [FloatOps F]

/-- The offset of a whole matrix is zero on both axes. -/
theorem offs2 : (![0, 0] : Fin 2 → Nat) = fun _ => 0 := funext fun a => by fin_cases a <;> rfl
/-- The offset of a whole array of rank three is zero on all axes. -/
theorem offs3 : (![0, 0, 0] : Fin 3 → Nat) = fun _ => 0 := funext fun a => by fin_cases a <;> rfl

/-- The routing weights the first point stores: a row of eight per token, from the tokens `x`, the router's matrix `w`
    and its bias row `b`. -/
def weights (x : Vec F S2048x1024 .f32) (w : Vec F S1024x8 .f32) (b : Vec F S1x8 .f32) : Vec F S2048x8 .f32 :=
  k0_pay13 (iota .tc S2048x8 32 [1] iota_S2048x8_d1_w32) (k0_pay9 x w b) (k0_pay10 x w b) (k0_pay11 x w b) (k0_pay12 x w b)

/-- The contribution of the grid point `i`: the expert's output over one chunk of the hidden units, scaled by the
    expert's routing weight. -/
def contribution (i : grid0.Coords) (x : Vec F S2048x1024 .f32) (w1 : Vec F S1x1024x512 .f32) (b1 : Vec F S1x1x512 .f32)
    (w2 : Vec F S1x512x1024 .f32) (b2 : Vec F S1x1x1024 .f32) (g : Vec F S2048x8 .f32) : Vec F S2048x1024 .f32 :=
  k0_pay1 (k0_pay14 i x w1 b1 w2 b2) g (k0_pay15 i) (Scalar.ofBits .f32 0x00000000#32)

section Cases

variable (c : Dev nD) (i : grid0.Coords) (arg2 : Memref sig .tc .vmem S2048x1024 .f32) (harg2 : arg2.IsWhole)
  (arg3 : Memref sig .tc .vmem S1024x8 .f32) (harg3 : arg3.IsWhole) (arg4 : Memref sig .tc .vmem S1x8 .f32) (harg4 : arg4.IsWhole)
  (arg5 : Memref sig .tc .vmem S1x1024x512 .f32) (harg5 : arg5.IsWhole) (arg6 : Memref sig .tc .vmem S1x1x512 .f32) (harg6 : arg6.IsWhole)
  (arg7 : Memref sig .tc .vmem S1x512x1024 .f32) (harg7 : arg7.IsWhole) (arg8 : Memref sig .tc .vmem S1x1x1024 .f32) (harg8 : arg8.IsWhole)
  (arg9 : Memref sig .tc .vmem S2048x1024 .f32) (harg9 : arg9.IsWhole) (arg10 : Memref sig .tc .vmem S2048x8 .f32) (harg10 : arg10.IsWhole)
  (x0 : Vec F S2048x1024 .f32) (x1 : Vec F S1024x8 .f32) (x2 : Vec F S1x8 .f32) (x3 : Vec F S1x1024x512 .f32)
  (x4 : Vec F S1x1x512 .f32) (x5 : Vec F S1x512x1024 .f32) (x6 : Vec F S1x1x1024 .f32)

/-- At the first point the scratch buffer is left holding the routing weights. -/
theorem scratch_first (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 hc0 hc1 hc2
      x0 x1 x2 x3 x4 x5 x6 = weights x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 x0 x1 x2 x3 x4 x5 x6)]
  unfold kernelRun0_A
  dsimp only
  sl_unfold_words
  rw [View.canon_unit_zero (S := S2048x8) offs2]
  simp only [View.readAt_eq_ld, harg2.read_unread, harg3.read_unread, harg4.read_unread, View.ld_unit_zero (S := S2048x1024) offs2,
    View.ld_unit_zero (S := S1024x8) offs2, View.ld_unit_zero (S := S1x8) offs2]
  rfl

/-- At the first point the output block is left holding that point's contribution. -/
theorem output_first (hc0 : cond0_0 i) (hc1 : cond0_1 i) (hc2 : ¬cond0_2 i) :
    out0_A_7 c i arg2 harg2 arg3 harg3 arg4 harg4 arg5 harg5 arg6 harg6 arg7 harg7 arg8 harg8 arg9 harg9 arg10 harg10 hc0 hc1 hc2
      x0 x1 x2 x3 x4 x5 x6 = contribution i x0 x3 x4 x5 x6 (weights x0 x1 x2) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 hc2 x0 x1 x2 x3 x4 x5 x6)]
  unfold kernelRun0_A
  dsimp only
  sl_unfold_words
  rw [View.canon_unit_zero (S := S2048x1024) offs2]
  simp only [View.readCov_unit_zero (S := S2048x8) _ offs2, View.readAt_eq_ld, harg2.read_unread, harg3.read_unread, harg4.read_unread, harg5.read_unread,
    harg6.read_unread, harg7.read_unread, harg8.read_unread, View.ld_unit_zero (S := S2048x1024) offs2,
    View.ld_unit_zero (S := S1024x8) offs2, View.ld_unit_zero (S := S1x8) offs2, View.ld_unit_zero (S := S1x1024x512) offs3,
    View.ld_unit_zero (S := S1x1x512) offs3, View.ld_unit_zero (S := S1x512x1024) offs3, View.ld_unit_zero (S := S1x1x1024) offs3]
  rfl

/-- At a later point the output block is left holding what it held, plus that point's contribution. -/
theorem output_later (hc0 : ¬cond0_0 i) (hc1 : ¬cond0_1 i) (hc2 : cond0_2 i) (xo : Vec F S2048x1024 .f32) (g : Vec F S2048x8 .f32) :
    out0_B_7 c i arg2 harg2 arg3 harg3 arg4 harg4 arg5 harg5 arg6 harg6 arg7 harg7 arg8 harg8 arg9 harg9 arg10 harg10 hc0 hc1 hc2
      x0 x1 x2 x3 x4 x5 x6 xo g = addf xo (contribution i x0 x3 x4 x5 x6 g) := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 hc2 x0 x1 x2 x3 x4 x5 x6 xo g)]
  unfold kernelRun0_B
  dsimp only
  sl_unfold_words
  rw [View.canon_unit_zero (S := S2048x1024) offs2]
  unfold k0_pay2 contribution
  simp only [View.readAt_eq_ld, harg2.read_unread, harg5.read_unread, harg9.read_unread, harg10.read_unread,
    harg6.read_unread, harg7.read_unread, harg8.read_unread, View.ld_unit_zero (S := S2048x1024) offs2, View.ld_unit_zero (S := S2048x8) offs2,
    View.ld_unit_zero (S := S1x1024x512) offs3, shapeCast_self,
    View.ld_unit_zero (S := S1x1x512) offs3, View.ld_unit_zero (S := S1x512x1024) offs3, View.ld_unit_zero (S := S1x1x1024) offs3]

end Cases

variable (m : (ℓ : Loc nD τ sig) → Buf (Elt F) ℓ) (ρ : Dev nD → PrngReg)

/-- The routing weights of the whole run: those of the first point's blocks. -/
def gate (c : Dev nD) : Vec F S2048x8 .f32 :=
  weights (iblk m c 0 (⟨0, lt_of_lt_of_eq (by decide) N_0.symm⟩ : Fin cfg0.N)) (iblk m c 1 (⟨0, lt_of_lt_of_eq (by decide) N_0.symm⟩ : Fin cfg0.N))
    (iblk m c 2 (⟨0, lt_of_lt_of_eq (by decide) N_0.symm⟩ : Fin cfg0.N))

/-- The contribution of point `t` of the run, over the run's routing weights. -/
def term (c : Dev nD) (t : Fin cfg0.N) : Vec F S2048x1024 .f32 :=
  contribution (grid0.coords t) (iblk m c 0 t) (iblk m c 3 t) (iblk m c 4 t) (iblk m c 5 t) (iblk m c 6 t) (gate m c)

/-- The running sum of the contributions of the points `0` to `n`, in point order. -/
def running (c : Dev nD) : (n : ℕ) → n < cfg0.N → Vec F S2048x1024 .f32
  | 0, h => term m c ⟨0, h⟩
  | n + 1, h => addf (running c n (Nat.lt_of_succ_lt h)) (term m c ⟨n + 1, h⟩)

/-- After point `n` the output block holds the running sum and the scratch buffer the routing weights. -/
theorem outsAt0_running (c : Dev nD) : ∀ (n : ℕ) (h : n < cfg0.N), outsAt0 m c n h = (running m c n h, gate m c)
  | 0, h => by
    rw [outsAt0_A m c ⟨0, h⟩ (Nat.zero_mod _) (Nat.zero_mod _) (fun h => by (try dsimp only at h); omega), output_first, scratch_first]
    rfl
  | n + 1, h => by
    have hN := lt_of_lt_of_eq h (show cfg0.N = 64 from N_0)
    have ih := outsAt0_running c n (Nat.lt_of_succ_lt h)
    rw [outsAt0_B m c ⟨n + 1, h⟩ (by dsimp only; omega) (by dsimp only; omega) (by dsimp only; omega), output_later]
    unfold sout0_B_0
    show (addf (outsAt0 m c n _).1 (contribution _ _ _ _ _ _ (outsAt0 m c n _).2), (outsAt0 m c n _).2) = _
    rw [ih]
    simp only [running, term]

/-- The last point. -/
abbrev lastPt : Fin cfg0.N := ⟨63, lt_of_lt_of_eq (by decide) N_0.symm⟩

/-- What the result array ends holding: the sum of all the contributions, in point order. -/
abbrev total (c : Dev nD) : Buf (Elt F) ((c : Thread nD τ).loc main_v4) := running m c 63 (lastPt).isLt

/-- The one write-back, after the last point, writes the sum of all the contributions. -/
theorem flushed_total (c : Dev nD) (t : Fin cfg0.N) (hf : (cfg0.win 7).flush t = true) :
    (dats m 0 c).flushed 7 t = ((cfg0.win 7).blk t).view.read (Elt F) (total m c) := by
  have hN : cfg0.N = 64 := N_0
  have h3 : t.val = 63 := by have := (flush0_7 t).mp hf; have := t.isLt; omega
  obtain rfl : t = lastPt := Fin.ext h3
  show (cfg0.win 7).cut (grid0.coords lastPt) ((dats m 0 c).after 7 lastPt) = _
  rw [after0_7, outsAt0_running]
  have hz' : (fun a => win0_7.index lastPt a * main_v4.ty.shape.size a) = fun _ => 0 := funext fun a => by fin_cases a <;> decide +kernel
  exact (Memref.read_access_unit_zero (Elt F) main_v4 hz' (fun a => by rw [congrFun hz' a]; simp) (total m c)).symm

/-- After the run the kernel's result array holds the sum of all the contributions. -/
theorem final_total (c : Dev nD) : (dats m 0 c).arrAt 7 cfg0.N = total m c :=
  (dats m 0 c).arrAt_eq_of_cover 7 (total m c) (flushed_total m c) fun i =>
    ⟨lastPt, (flush0_7 lastPt).mpr rfl, by
      show i ∈ ((View.whole main_v4).slice (win0_7.rect lastPt)).set
      rw [View.set_slice_whole, Rect.mem_set_unit]
      intro a
      have h0 : (i 0 : Nat) < 2048 := (i 0).isLt
      have h1 : (i 1 : Nat) < 1024 := (i 1).isLt
      match a with
      | ⟨0, _⟩ => show win0_7.index lastPt 0 * win0_7.size 0 ≤ (i 0 : Nat) ∧ (i 0 : Nat) < win0_7.index lastPt 0 * win0_7.size 0 + win0_7.xsize (grid0.coords lastPt) 0
                  rw [show win0_7.index lastPt 0 * win0_7.size 0 = 0 from by decide +kernel, show win0_7.xsize (grid0.coords lastPt) 0 = 2048 from by decide +kernel]; omega
      | ⟨1, _⟩ => show win0_7.index lastPt 1 * win0_7.size 1 ≤ (i 1 : Nat) ∧ (i 1 : Nat) < win0_7.index lastPt 1 * win0_7.size 1 + win0_7.xsize (grid0.coords lastPt) 1
                  rw [show win0_7.index lastPt 1 * win0_7.size 1 = 0 from by decide +kernel, show win0_7.xsize (grid0.coords lastPt) 1 = 1024 from by decide +kernel]; omega⟩

/-- The line after the kernel reshapes its result array into the returned array: the returned array holds the reshaped sum. -/
theorem returned_total (c : Dev nD) :
    Pipeline.afterTail₀ cfgs (dats m) 0 (V0 m) [hostOps1] c main_v5
      = shapeCast _ (total m c) shapeCasts_S2048x1024_S1x2048x1024 := by
  unfold Pipeline.afterTail₀
  have e : Pipeline.withArrays spec0 c (V0 m c) (fun w => (dats m 0 c).arrAt w cfg0.N) (Proc.devRef .tc main_v4) = total m c :=
    (Pipeline.withArrays_arr spec0 (by decide) c (V0 m c) _ 7).trans (final_total m c)
  rw [← e]
  rfl

/-- The run of the kernel, read: the returned array holds the sum of all the contributions, reshaped, and the arguments are unchanged. -/
theorem run_total : θ_run defs (onTc (τ := τ) (main (F := F))) ⟨m, fun _ => 0, ρ⟩ fun r => ∀ c : Dev nD,
      r.2.mem ((c.tc : Thread nD τ).loc main_v5) = shapeCast _ (total m c) shapeCasts_S2048x1024_S1x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).2 main_v5 (Pipeline.mem_restRefs_of main_v5 (by decide) (by decide))).trans (returned_total m c), h.2 c⟩)
    (θ_run_and (run_main m ρ) (unchanged m ρ))

end Cert.KernelIdeal.Moe

end
-- ==== Proof.Routing.lean ====
/-
  The routing of one token, as plain mathematics on its eight router logits: the probabilities (a softmax), the kernel's
  two rounds of "greatest, first position that attains it", and the weights they give the eight experts. Every quantity is
  an extended real; the two cases that matter are told apart in `probs_cases`.
-/
module

public import Idealize.ShloMosaic.Lib.Pointwise
public import Idealize.ShloMosaic.Lib.SortFacts
public import Idealize.ShloMosaic.Lib.SortPrefix

@[expose] public section

set_option maxRecDepth 16384

noncomputable section

namespace Cert.Routing

open Idealize.ShloMosaic

/-- The greatest of eight numbers. -/
def greatest (p : Fin 8 → EReal) : EReal := Finset.fold max ⊥ p Finset.univ

/-- The softmax of eight logits. -/
def probs (l : Fin 8 → EReal) (e : Fin 8) : EReal :=
  Ideal.div (Ideal.exp (l e - greatest l)) (∑ x, Ideal.exp (l x - greatest l))

/-- The kernel's search for the first position that holds `v`: the least position word among those that do. -/
def firstWord (p : Fin 8 → EReal) (v : EReal) : BitVec 32 :=
  Finset.fold IntOp.minsi 2147483647#32 (fun x : Fin 8 => if p x = v then BitVec.ofNat 32 x.val else 9#32) Finset.univ

/-- The position word of the first greatest entry. -/
def firstGreatest (p : Fin 8 → EReal) : BitVec 32 := firstWord p (greatest p)

/-- The numbers with the first greatest entry struck out. -/
def struck (p : Fin 8 → EReal) (e : Fin 8) : EReal :=
  Scalar.select (IntOp.cmpi CmpIPredicate.eq (BitVec.ofNat 32 e.val) (firstGreatest p)) ⊥ (p e)

/-- The kernel's weight of expert `e`. -/
def weight (p : Fin 8 → EReal) (e : Fin 8) : EReal :=
  Scalar.select (IntOp.cmpi CmpIPredicate.eq (BitVec.ofNat 32 e.val) (firstGreatest p))
    (Ideal.div (greatest p) (greatest p + greatest (struck p)))
    (Scalar.select (IntOp.cmpi CmpIPredicate.eq (BitVec.ofNat 32 e.val) (firstGreatest (struck p)))
      (Ideal.div (greatest (struck p)) (greatest p + greatest (struck p))) 0)

/-- The weights as they come out: expert `a` with value `u` and expert `b` with value `v`, normalized by their sum. -/
def pairWeight (a b : Fin 8) (u v : EReal) (e : Fin 8) : EReal :=
  if e = a then Ideal.div u (u + v) else if e = b then Ideal.div v (u + v) else 0

/-- `a` is the first position of a greatest entry. -/
def IsFirst (p : Fin 8 → EReal) (a : Fin 8) : Prop := (∀ e, p e ≤ p a) ∧ ∀ e, e < a → p e < p a

/-- Every list of eight entries has a first position of a greatest entry. -/
theorem exists_isFirst (p : Fin 8 → EReal) : ∃ a, IsFirst p a := by
  classical
  obtain ⟨g, -, hg⟩ := Finset.exists_max_image Finset.univ p ⟨0, Finset.mem_univ _⟩
  have hne : (Finset.univ.filter fun e => p e = p g).Nonempty := ⟨g, by simp⟩
  refine ⟨Finset.min' _ hne, ?_⟩
  have hm := Finset.min'_mem _ hne
  simp only [Finset.mem_filter, Finset.mem_univ, true_and] at hm
  refine ⟨fun e => (hg e (Finset.mem_univ _)).trans hm.ge, fun e he => ?_⟩
  refine lt_of_le_of_ne ((hg e (Finset.mem_univ _)).trans hm.ge) fun h => ?_
  have := Finset.min'_le (Finset.univ.filter fun e => p e = p g) e (by simp [h, hm])
  exact absurd he (not_lt.mpr this)

/-- An entry that no other exceeds is the list's maximum. -/
theorem greatest_eq {p : Fin 8 → EReal} {a : Fin 8} (h : ∀ e, p e ≤ p a) : greatest p = p a :=
  le_antisymm ((Finset.fold_max_le _).mpr ⟨bot_le, fun e _ => h e⟩)
    ((Finset.le_fold_max _).mpr (Or.inr ⟨a, Finset.mem_univ _, le_rfl⟩))

/-- Over all patterns of hits among eight positions: the least hit position is the search's result. -/
theorem first_hit : ∀ (q : Fin 8 → Bool) (a : Fin 8), q a = true → (∀ e, e < a → q e = false) →
    Finset.fold IntOp.minsi 2147483647#32 (fun x : Fin 8 => if q x = true then BitVec.ofNat 32 x.val else 9#32) Finset.univ
      = BitVec.ofNat 32 a.val := by
  decide +kernel

/-- The kernel's search for the first greatest entry finds its position, as a word. -/
theorem firstGreatest_eq {p : Fin 8 → EReal} {a : Fin 8} (h : IsFirst p a) : firstGreatest p = BitVec.ofNat 32 a.val := by
  classical
  unfold firstGreatest firstWord
  rw [greatest_eq h.1]
  have := first_hit (fun e => decide (p e = p a)) a (by simp) (fun e he => by simpa using (h.2 e he).ne)
  simpa using this

/-- Position words compare as the positions do. -/
theorem cmpi_word : ∀ e a : Fin 8,
    IntOp.cmpi CmpIPredicate.eq (BitVec.ofNat 32 e.val) (BitVec.ofNat 32 a.val) = if e = a then 1#1 else 0#1 := by
  decide +kernel

/-- A choice by the equality of two position words is a choice by the equality of the positions. -/
theorem select_word {α : Type} (e a : Fin 8) (x y : α) :
    Scalar.select (IntOp.cmpi CmpIPredicate.eq (BitVec.ofNat 32 e.val) (BitVec.ofNat 32 a.val)) x y = if e = a then x else y := by
  rw [cmpi_word]
  split <;> rfl

/-- Striking out the first greatest entry puts −∞ in its place and leaves the others. -/
theorem struck_eq {p : Fin 8 → EReal} {a : Fin 8} (h : IsFirst p a) (e : Fin 8) : struck p e = if e = a then ⊥ else p e := by
  unfold struck
  rw [firstGreatest_eq h, select_word]

/-- The kernel's weights, from the first greatest entry `a` and the first greatest entry `b` of what is left. -/
theorem weight_eq {p : Fin 8 → EReal} {a b : Fin 8} (ha : IsFirst p a) (hb : IsFirst (struck p) b) (e : Fin 8) :
    weight p e = pairWeight a b (p a) (struck p b) e := by
  unfold weight pairWeight
  rw [firstGreatest_eq ha, firstGreatest_eq hb, select_word, select_word, greatest_eq ha.1, greatest_eq hb.1]

/-! ### The probabilities -/

/-- The exponential of an entry less a real upper bound of it is a real number that is not negative. -/
theorem exp_sub_cases (x : EReal) (μ : ℝ) (h : x ≤ μ) : ∃ r : ℝ, Ideal.exp (x - μ) = (r : EReal) ∧ 0 ≤ r := by
  induction x with
  | bot => exact ⟨0, rfl, le_rfl⟩
  | coe y => exact ⟨Real.exp (y - μ), rfl, (Real.exp_pos _).le⟩
  | top => exact absurd h (by simp)

/-- Zero divided by zero is −∞. -/
theorem div_zero_zero : Ideal.div 0 0 = ⊥ := by simp [Ideal.div]

/-- A sum of eight real numbers is the same among the extended reals. -/
theorem coe_sum (v : Fin 8 → ℝ) : ∑ e, (v e : EReal) = ((∑ e, v e : ℝ) : EReal) := by
  simp only [Fin.sum_univ_succ, Fin.sum_univ_zero, EReal.coe_add, EReal.coe_zero]

/-- A quotient of real numbers with a divisor other than zero is the same among the extended reals. -/
theorem div_coe (x y : ℝ) (hy : y ≠ 0) : Ideal.div (x : EReal) (y : EReal) = ((x * y⁻¹ : ℝ) : EReal) := by
  unfold Ideal.div
  rw [if_neg (by exact_mod_cast hy), ← EReal.coe_inv, ← EReal.coe_mul]

/-- Either the greatest logit is infinite, and then every probability is −∞, or the probabilities are real numbers, none
    of them negative and at least one positive. -/
theorem probs_cases (l : Fin 8 → EReal) :
    (∀ e, probs l e = ⊥) ∨ ∃ r : Fin 8 → ℝ, (∀ e, probs l e = (r e : EReal)) ∧ (∀ e, 0 ≤ r e) ∧ ∃ e, 0 < r e := by
  obtain ⟨a, ha⟩ := exists_isFirst l
  have hg := greatest_eq ha.1
  have inf : (∀ e, l e - greatest l = ⊥) → ∀ e, probs l e = ⊥ := fun h e => by
    have h0 : ∀ e, Ideal.exp (l e - greatest l) = 0 := fun e => by rw [h e]; rfl
    unfold probs
    simp only [h0, Finset.sum_const_zero]
    exact div_zero_zero
  induction hv : l a with
  | bot =>
    refine Or.inl (inf fun e => ?_)
    have : l e = ⊥ := le_bot_iff.mp (hv ▸ ha.1 e)
    rw [this]; exact EReal.bot_sub _
  | top => exact Or.inl (inf fun e => by rw [hg, hv]; exact EReal.sub_top _)
  | coe μ =>
    refine Or.inr ?_
    choose v hv1 hv2 using fun e => exp_sub_cases (l e) μ (hv ▸ ha.1 e)
    have hva : v a = 1 := by
      have h1 := hv1 a
      rw [hv, ← EReal.coe_sub, sub_self] at h1
      have h2 : Ideal.exp ((0 : ℝ) : EReal) = ((Real.exp 0 : ℝ) : EReal) := rfl
      rw [h2, Real.exp_zero] at h1
      exact_mod_cast h1.symm
    have hpos : 0 < ∑ e, v e := lt_of_lt_of_le (by rw [hva]; exact one_pos) (Finset.single_le_sum (fun e _ => hv2 e) (Finset.mem_univ a))
    refine ⟨fun e => v e * (∑ e, v e)⁻¹, fun e => ?_, fun e => mul_nonneg (hv2 e) (inv_nonneg.mpr hpos.le), a, ?_⟩
    · unfold probs
      simp only [hg, hv, hv1, coe_sum]
      exact div_coe _ _ hpos.ne'
    · show 0 < v a * (∑ e, v e)⁻¹
      rw [hva]; exact mul_pos one_pos (inv_pos.mpr hpos)

/-! ### The weights are ordinary non-negative numbers -/

/-- If both chosen probabilities are −∞, every weight is 0. -/
theorem pairWeight_bot (a b e : Fin 8) : pairWeight a b ⊥ ⊥ e = 0 := by
  have : Ideal.div ⊥ (⊥ + ⊥) = 0 := by simp [Ideal.div]
  unfold pairWeight
  rw [this]
  split
  · rfl
  · split <;> rfl

/-- If the first chosen probability is real and positive and the second real and not negative, every weight is real and not
    negative. -/
theorem pairWeight_coe (a b : Fin 8) (u v : ℝ) (hu : 0 < u) (hv : 0 ≤ v) (e : Fin 8) :
    ∃ r : ℝ, pairWeight a b u v e = (r : EReal) ∧ 0 ≤ r := by
  have hs : (0 : ℝ) < u + v := by positivity
  unfold pairWeight
  rw [← EReal.coe_add, div_coe _ _ hs.ne', div_coe _ _ hs.ne']
  split
  · exact ⟨_, rfl, by positivity⟩
  · split
    · exact ⟨_, rfl, by positivity⟩
    · exact ⟨0, rfl, le_rfl⟩

/-- If every probability is −∞, so is the list with one of them struck out, and every weight is 0. -/
theorem weight_bot {p : Fin 8 → EReal} (h : ∀ e, p e = ⊥) (e : Fin 8) : weight p e = 0 := by
  obtain ⟨a, ha⟩ := exists_isFirst p
  obtain ⟨b, hb⟩ := exists_isFirst (struck p)
  have hs : struck p b = ⊥ := by rw [struck_eq ha, h]; exact ite_self _
  rw [weight_eq ha hb, h a, hs, pairWeight_bot]

/-- Among real probabilities the second choice differs from the first. -/
theorem second_ne {p : Fin 8 → EReal} {r : Fin 8 → ℝ} (hr : ∀ e, p e = (r e : EReal)) {a b : Fin 8} (ha : IsFirst p a)
    (hb : IsFirst (struck p) b) : b ≠ a := by
  rintro rfl
  obtain ⟨e, he⟩ : ∃ e : Fin 8, e ≠ b := exists_ne b
  have h := hb.1 e
  rw [struck_eq ha, struck_eq ha, if_neg he, if_pos rfl, hr e] at h
  exact absurd h (by simp)

/-- The kernel's weights are finite and not negative. -/
theorem weight_real (l : Fin 8 → EReal) (e : Fin 8) : ∃ r : ℝ, weight (probs l) e = (r : EReal) ∧ 0 ≤ r := by
  rcases probs_cases l with h | ⟨r, hr, h0, g, hg⟩
  · exact ⟨0, weight_bot h e, le_rfl⟩
  · obtain ⟨a, ha⟩ := exists_isFirst (probs l)
    obtain ⟨b, hb⟩ := exists_isFirst (struck (probs l))
    rw [weight_eq ha hb, struck_eq ha, if_neg (second_ne hr ha hb), hr a, hr b]
    refine pairWeight_coe a b _ _ (lt_of_lt_of_le hg ?_) (h0 b) e
    have h := ha.1 g
    rw [hr, hr] at h
    exact_mod_cast h

end Cert.Routing

end
-- ==== Proof.TopTwo.lean ====
/-
  The reference's choice of two experts: a stable sort of the probabilities, greatest first, cut to its first two
  entries. Stability means that equal probabilities come in the order of their positions; the first two positions of the
  sort are therefore the ones that the kernel's two rounds find.
-/
module

public import proofs.«01_k».proof.Proof.Routing

@[expose] public section

set_option maxRecDepth 16384

noncomputable section

namespace Cert.Routing

open Idealize.ShloMosaic

/-- On a list written in increasing order of position, a stable sort by a comparison is the sort by that comparison with
    ties settled by position. -/
theorem stableSort_ties {n : Nat} {B T : Fin n → Fin n → Bool} (h : ∀ a b : Fin n, a < b → B b a = T b a) :
    ∀ l : List (Fin n), l.Pairwise (· < ·) → stableSort B l = stableSort T l
  | [], _ => rfl
  | a :: l, hl => by
    have hl' := List.pairwise_cons.mp hl
    have ins : ∀ s : List (Fin n), (∀ b ∈ s, a < b) → insertBefore B a s = insertBefore T a s := by
      intro s
      induction s with
      | nil => intro _; rfl
      | cons b s ih =>
        intro hs
        simp only [insertBefore, h a b (hs b List.mem_cons_self), ih fun x hx => hs x (List.mem_cons_of_mem _ hx)]
    simp only [stableSort]
    rw [stableSort_ties h l hl'.2]
    exact ins _ fun b hb => hl'.1 b ((perm_stableSort T l).mem_iff.mp hb)

/-- Two orders that agree as in `stableSort_ties` send the same entry to each position. -/
theorem sortedFrom_ties {n : Nat} {B T : Fin n → Fin n → Bool} (h : ∀ a b : Fin n, a < b → B b a = T b a) (k : Fin n) :
    sortedFrom B k = sortedFrom T k := by
  have e : sortPositions n B = sortPositions n T := stableSort_ties h _ (List.pairwise_lt_finRange n)
  unfold sortedFrom
  simp only [List.get_eq_getElem, Fin.val_cast, e]

/-- The reference's comparison of two positions. -/
def before (p : Fin 8 → EReal) (k k' : Fin 8) : Bool := FloatOps.cmpfTotal (F := Ideal) (φ := .f32) .gt (p k) (p k') == 1#1

/-- One entry comes before another in the reference's sort just if it is the greater. -/
theorem before_eq (p : Fin 8 → EReal) (k k' : Fin 8) : before p k k' = decide (p k' < p k) := by
  show (BitVec.ofBool (decide (p k' < p k)) == 1#1) = _
  by_cases h : p k' < p k <;> simp [h]

/-- With ties settled by position this is a strict total order. -/
theorem order_total (p : Fin 8 → EReal) :
    StrictTotalBefore fun k k' : Fin 8 => decide (p k' < p k) || (decide (p k = p k') && decide (k < k')) :=
  .of_key_then_position (fun x y : EReal => decide (y < x)) p (fun a => by simp)
    (fun a b c h1 h2 => by simp only [decide_eq_true_eq] at *; exact h2.trans h1)
    (fun a b => by simp only [decide_eq_true_eq]; rcases lt_trichotomy a b with h | h | h <;> simp [h])

/-- The first two positions of the sort, when the second choice differs from the first. -/
theorem sorted_two {p : Fin 8 → EReal} {a b : Fin 8} (ha : IsFirst p a) (hb : IsFirst (struck p) b) (hne : b ≠ a) (k : Fin 2) :
    sortedFrom (before p) (k.castLE (by decide)) = (![a, b] : Fin 2 → Fin 8) k := by
  have hs : ∀ e, e ≠ a → struck p e = p e := fun e he => by rw [struck_eq ha, if_neg he]
  rw [sortedFrom_ties (T := fun k k' : Fin 8 => decide (p k' < p k) || (decide (p k = p k') && decide (k < k')))
    (fun x y hxy => by rw [before_eq]; simp [hxy.le, not_lt.mpr hxy.le])]
  refine (order_total p).sortedFrom_eq_of_prefix (by decide) ![a, b] ?_ ?_ ?_ k
  · intro i j hij
    fin_cases i <;> fin_cases j <;> first | rfl | exact absurd hij (by simpa using hne) | exact absurd hij (by simpa using hne.symm)
  · intro i j hij
    obtain ⟨rfl, rfl⟩ : i = 0 ∧ j = 1 := by fin_cases i <;> fin_cases j <;> simp at hij ⊢
    show (decide (p a < p b) || (decide (p b = p a) && decide (b < a))) = false
    have h1 : ¬ p a < p b := not_lt.mpr (ha.1 b)
    have h2 : p b = p a → a ≤ b := fun h => not_lt.mp fun h' => (ha.2 b h').ne h
    simpa [h1] using h2
  · intro i q hq
    have hqa : q ≠ a := fun h => hq 0 h.symm
    have hqb : q ≠ b := fun h => hq 1 h.symm
    fin_cases i
    · show (decide (p a < p q) || (decide (p q = p a) && decide (q < a))) = false
      have h1 : ¬ p a < p q := not_lt.mpr (ha.1 q)
      have h2 : p q = p a → a ≤ q := fun h => not_lt.mp fun h' => (ha.2 q h').ne h
      simpa [h1] using h2
    · show (decide (p b < p q) || (decide (p q = p b) && decide (q < b))) = false
      have h1 : ¬ p b < p q := not_lt.mpr (by have := hb.1 q; rwa [hs q hqa, hs b hne] at this)
      have h2 : p q = p b → b ≤ q := fun h => not_lt.mp fun h' => by
        have := hb.2 q h'
        rw [hs q hqa, hs b hne] at this
        exact this.ne h
      simpa [h1] using h2

/-- The reference's weight of expert `e`: over the two chosen positions, the value there normalized by the sum of both,
    counted where the position is `e`. -/
def refWeight (p : Fin 8 → EReal) (e : Fin 8) : EReal :=
  ∑ k : Fin 2, FloatOps.uitofp (F := Ideal) FTy.f32
      (IntOp.cmpi CmpIPredicate.eq (BitVec.ofNat 32 (sortedFrom (before p) (k.castLE (by decide))).val) (BitVec.ofNat 32 e.val))
    * Ideal.div (p (sortedFrom (before p) (k.castLE (by decide))))
        (∑ k : Fin 2, p (sortedFrom (before p) (k.castLE (by decide))))

/-- A value times the number 1 or 0 that says whether two positions are equal is the value or 0. -/
theorem uitofp_word (a e : Fin 8) (x : EReal) :
    FloatOps.uitofp (F := Ideal) FTy.f32 (IntOp.cmpi CmpIPredicate.eq (BitVec.ofNat 32 a.val) (BitVec.ofNat 32 e.val)) * x
      = if e = a then x else 0 := by
  rw [cmpi_word]
  by_cases h : e = a
  · rw [if_pos h, if_pos h.symm]
    have : FloatOps.uitofp (F := Ideal) FTy.f32 1#1 = (1 : EReal) := by show ((( (1#1 : BitVec 1).toNat : ℕ) : ℝ) : EReal) = 1; simp
    rw [this, one_mul]
  · rw [if_neg h, if_neg (Ne.symm h)]
    have : FloatOps.uitofp (F := Ideal) FTy.f32 0#1 = (0 : EReal) := by show ((( (0#1 : BitVec 1).toNat : ℕ) : ℝ) : EReal) = 0; simp
    rw [this, zero_mul]

/-- The reference weighs the experts as the kernel does. -/
theorem refWeight_eq (l : Fin 8 → EReal) (e : Fin 8) : refWeight (probs l) e = weight (probs l) e := by
  rcases probs_cases l with h | ⟨r, hr, h0, g, hg⟩
  · rw [weight_bot h]
    have hd : Ideal.div ⊥ (⊥ + ⊥) = 0 := by simp [Ideal.div]
    unfold refWeight
    simp only [h, Fin.sum_univ_two, hd, mul_zero, add_zero]
  · obtain ⟨a, ha⟩ := exists_isFirst (probs l)
    obtain ⟨b, hb⟩ := exists_isFirst (struck (probs l))
    have hne := second_ne hr ha hb
    rw [weight_eq ha hb, struck_eq ha, if_neg hne]
    unfold refWeight pairWeight
    have s0 : sortedFrom (before (probs l)) ((0 : Fin 2).castLE (by decide)) = a := sorted_two ha hb hne 0
    have s1 : sortedFrom (before (probs l)) ((1 : Fin 2).castLE (by decide)) = b := sorted_two ha hb hne 1
    simp only [Fin.sum_univ_two, s0, s1, uitofp_word]
    by_cases h1 : e = a
    · rw [if_pos h1, if_neg (fun h2 : e = b => hne (h2.symm.trans h1)), if_pos h1, add_zero]
    · rw [if_neg h1, if_neg h1, zero_add]

end Cert.Routing

end
-- ==== Proof.Layer.lean ====
/-
  The layer as plain mathematics: eight experts, each a two-layer network with 4096 hidden units, added with the routing
  weights of the token. The kernel adds an expert up in eight chunks of 512 hidden units and scales each chunk;
  `chunks_sum` puts the chunks together. Scaling distributes over the sum because a routing weight is a real number, not
  negative.
-/
module

public import proofs.«01_k».proof.Proof.TopTwo

@[expose] public section

set_option maxRecDepth 16384

noncomputable section

namespace Cert.Layer

open Idealize.ShloMosaic Cert.Routing

/-- The arguments, by coordinates: the tokens, the router's matrix and bias, and the experts' two matrices and biases. -/
structure Params where
  x : Fin 2048 → Fin 1024 → EReal
  wr : Fin 1024 → Fin 8 → EReal
  br : Fin 8 → EReal
  w1 : Fin 8 → Fin 1024 → Fin 4096 → EReal
  b1 : Fin 8 → Fin 4096 → EReal
  w2 : Fin 8 → Fin 4096 → Fin 1024 → EReal
  b2 : Fin 8 → Fin 1024 → EReal

variable (P : Params) (r : Fin 2048)

/-- The router's logit of token `r` for expert `e`. -/
def logit (e : Fin 8) : EReal := ∑ d, P.x r d * P.wr d e + P.br e

/-- The weight of expert `e` for token `r`. -/
def share (e : Fin 8) : EReal := weight (probs (logit P r)) e

/-- Hidden unit `f` of expert `e` on token `r`. -/
def hidden (e : Fin 8) (f : Fin 4096) : EReal := max (∑ d, P.x r d * P.w1 e d f + P.b1 e f) 0

/-- Output `d` of expert `e` on token `r`. -/
def expert (e : Fin 8) (d : Fin 1024) : EReal := ∑ f, hidden P r e f * P.w2 e f d + P.b2 e d

/-- Output `d` of the layer on token `r`. -/
def layer (d : Fin 1024) : EReal := ∑ e, expert P r e d * share P r e

/-- Hidden unit `f` of chunk `j`, counted in the whole hidden layer. -/
def unitOf (j : Fin 8) (f : Fin 512) : Fin 4096 := ⟨512 * j.val + f.val, by have h := j.isLt; have h2 := f.isLt; omega⟩

/-- The part of expert `e`'s output `d` that chunk `j` of the hidden units gives. -/
def chunk (e j : Fin 8) (d : Fin 1024) : EReal := ∑ f, hidden P r e (unitOf j f) * P.w2 e (unitOf j f) d

/-- The eight chunks of an expert make up the sum over its hidden units. -/
theorem sum_chunk (e : Fin 8) (d : Fin 1024) : ∑ j, chunk P r e j d = ∑ f, hidden P r e f * P.w2 e f d := by
  rw [Fin.sum_univ_tiles 8 512 rfl]
  refine Finset.sum_congr rfl fun j _ => Finset.sum_congr rfl fun f _ => ?_
  have : unitOf j f = ⟨j.val * 512 + f.val, by have h := j.isLt; have h2 := f.isLt; omega⟩ := Fin.ext (by simp [unitOf, Nat.mul_comm])
  rw [this]

/-- Scaled chunks, the first of which carries the bias, add up to the scaled whole. -/
theorem chunks_sum (s : Fin 8 → EReal) (b w : EReal) (h0 : 0 ≤ w) (ht : w ≠ ⊤) :
    ∑ j : Fin 8, (if j = 0 then s j + b else s j) * w = (∑ j, s j + b) * w := by
  have h : ∀ j : Fin 8, (if j = 0 then s j + b else s j) * w = s j * w + if j = 0 then b * w else 0 := fun j => by
    split
    · exact EReal.right_distrib_of_nonneg_of_ne_top h0 ht _ _
    · exact (add_zero _).symm
  simp only [h, Finset.sum_add_distrib, Finset.sum_ite_eq', Finset.mem_univ, if_true]
  rw [EReal.right_distrib_of_nonneg_of_ne_top h0 ht]
  congr 1
  simp only [Fin.sum_univ_eight, EReal.right_distrib_of_nonneg_of_ne_top h0 ht]

/-- The layer, chunk by chunk. -/
theorem layer_eq_chunks (d : Fin 1024) :
    layer P r d = ∑ e, ∑ j : Fin 8, (if j = 0 then chunk P r e j d + P.b2 e d else chunk P r e j d) * share P r e := by
  refine Finset.sum_congr rfl fun e _ => ?_
  obtain ⟨w, hw, h0⟩ := weight_real (logit P r) e
  have hs : share P r e = (w : EReal) := hw
  rw [chunks_sum _ _ _ (by rw [hs]; exact_mod_cast h0) (by rw [hs]; exact EReal.coe_ne_top _), sum_chunk]
  rfl

end Cert.Layer

end
-- ==== Proof.Blocks.lean ====
/-
  What the kernel's input blocks hold, element by element, in terms of the arguments. Grid point `t` handles expert
  `t / 8` and the `t % 8`-th chunk of 512 hidden units.
-/
module

public import proofs.«01_k».proof.Proof.Stages
public import Idealize.ShloMosaic.Lib.Pipeline.ValueKit
public import Idealize.ShloMosaic.Lib.StableHlo.ReadAt
public import Idealize.ShloMosaic.Lib.Pointwise
public import proofs.«01_k».proof.Proof.Layer

@[expose] public section

set_option maxRecDepth 16384

noncomputable section

namespace Cert.KernelIdeal.Moe

open Cert.KernelIdeal Cert.KernelIdeal.Gen Idealize.ShloMosaic Idealize.ShloMosaic.TcCoe Idealize.SL.Sem
open Cert.Layer (unitOf)

/-- The expert the grid point `t` handles. -/
def expertOf (t : Fin cfg0.N) : Fin 8 := ⟨t.val / 8, by have h := lt_of_lt_of_eq t.isLt N_0; omega⟩

/-- The chunk of hidden units the grid point `t` handles. -/
def chunkOf (t : Fin cfg0.N) : Fin 8 := ⟨t.val % 8, Nat.mod_lt _ (by decide)⟩

/-- The block numbers of every window at every point: each window either stays at the origin or moves along the expert
    axis with `t / 8` and along the hidden axis with `t % 8`. -/
theorem blockNumbers : ∀ t : Fin grid0.N,
    ((win0_0.index t 0 = 0 ∧ win0_0.index t 1 = 0) ∧ (win0_1.index t 0 = 0 ∧ win0_1.index t 1 = 0) ∧ (win0_2.index t 0 = 0 ∧ win0_2.index t 1 = 0))
    ∧ (win0_3.index t 0 = t.val / 8 ∧ win0_3.index t 1 = 0 ∧ win0_3.index t 2 = t.val % 8)
    ∧ (win0_4.index t 0 = t.val / 8 ∧ win0_4.index t 1 = 0 ∧ win0_4.index t 2 = t.val % 8)
    ∧ (win0_5.index t 0 = t.val / 8 ∧ win0_5.index t 1 = t.val % 8 ∧ win0_5.index t 2 = 0)
    ∧ (win0_6.index t 0 = t.val / 8 ∧ win0_6.index t 1 = 0 ∧ win0_6.index t 2 = 0) := by
  decide +kernel

/-- The two grid coordinates of point `t` are its expert and its chunk. -/
theorem gridCoords : ∀ t : Fin grid0.N, (grid0.coords t 0).val = t.val / 8 ∧ (grid0.coords t 1).val = t.val % 8 := by
  decide +kernel

variable {F : FTy → Type} [FloatOps F] (m : (b : Loc nD τ sig) → Buf (Elt F) b) (c : Dev nD)

/-- Every point sees all tokens. -/
theorem block0 (t : Fin cfg0.N) (r : Fin 2048) (d : Fin 1024) :
    iblk m c 0 t (ix2 r d) = m ((c : Thread nD τ).loc main_arg0) (ix3 0 r d) := by
  obtain ⟨⟨⟨h0, h1⟩, -⟩, -⟩ := blockNumbers t
  have e : (win0_0.blk t).view.emb (ix2 r d) = (ix2 r d : S2048x1024.Idx) := by
    funext a
    fin_cases a <;> refine Fin.ext ?_ <;> blk_simp [h0, h1] <;> simp
  blk_simp [iblk]
  rw [e]
  unfold V V0
  after_reads_at

/-- Every point sees the router's whole matrix. -/
theorem block1 (t : Fin cfg0.N) (d : Fin 1024) (e : Fin 8) :
    iblk m c 1 t (ix2 d e) = m ((c : Thread nD τ).loc main_arg1) (ix2 d e) := by
  obtain ⟨⟨-, ⟨h0, h1⟩, -⟩, -⟩ := blockNumbers t
  have e : (win0_1.blk t).view.emb (ix2 d e) = (ix2 d e : S1024x8.Idx) := by
    funext a
    fin_cases a <;> refine Fin.ext ?_ <;> blk_simp [h0, h1] <;> simp
  blk_simp [iblk]
  rw [e]
  exact congrFun (V_main_arg1 m c) _

/-- Every point sees the router's whole bias. -/
theorem block2 (t : Fin cfg0.N) (e : Fin 8) :
    iblk m c 2 t (ix2 0 e) = m ((c : Thread nD τ).loc main_arg2) (ix1 e) := by
  obtain ⟨⟨-, -, ⟨h0, h1⟩⟩, -⟩ := blockNumbers t
  have e : (win0_2.blk t).view.emb (ix2 0 e) = (ix2 0 e : S1x8.Idx) := by
    funext a
    fin_cases a <;> refine Fin.ext ?_ <;> blk_simp [h0, h1] <;> simp
  blk_simp [iblk]
  rw [e]
  unfold V V0
  after_reads_at

/-- The first layer's block: the columns of the point's chunk in the point's expert. -/
theorem block3 (t : Fin cfg0.N) (d : Fin 1024) (f : Fin 512) :
    iblk m c 3 t (ix3 0 d f) = m ((c : Thread nD τ).loc main_arg3) (ix3 (expertOf t) d (unitOf (chunkOf t) f)) := by
  obtain ⟨-, ⟨h0, h1, h2⟩, -⟩ := blockNumbers t
  have e : (win0_3.blk t).view.emb (ix3 0 d f) = (ix3 (expertOf t) d (unitOf (chunkOf t) f) : S8x1024x4096.Idx) := by
    funext a
    fin_cases a <;> refine Fin.ext ?_ <;> blk_simp [h0, h1, h2] <;> simp [expertOf, chunkOf, unitOf, Nat.mul_comm]
  blk_simp [iblk]
  rw [e]
  exact congrFun (V_main_arg3 m c) _

/-- The first bias's block: the entries of the point's chunk in the point's expert. -/
theorem block4 (t : Fin cfg0.N) (f : Fin 512) :
    iblk m c 4 t (ix3 0 0 f) = m ((c : Thread nD τ).loc main_arg4) (ix2 (expertOf t) (unitOf (chunkOf t) f)) := by
  obtain ⟨-, -, ⟨h0, h1, h2⟩, -⟩ := blockNumbers t
  have e : (win0_4.blk t).view.emb (ix3 0 0 f) = (ix3 (expertOf t) 0 (unitOf (chunkOf t) f) : S8x1x4096.Idx) := by
    funext a
    fin_cases a <;> refine Fin.ext ?_ <;> blk_simp [h0, h1, h2] <;> simp [expertOf, chunkOf, unitOf, Nat.mul_comm]
  blk_simp [iblk]
  rw [e]
  unfold V V0
  after_reads_at

/-- The second layer's block: the rows of the point's chunk in the point's expert. -/
theorem block5 (t : Fin cfg0.N) (f : Fin 512) (d : Fin 1024) :
    iblk m c 5 t (ix3 0 f d) = m ((c : Thread nD τ).loc main_arg5) (ix3 (expertOf t) (unitOf (chunkOf t) f) d) := by
  obtain ⟨-, -, -, ⟨h0, h1, h2⟩, -⟩ := blockNumbers t
  have e : (win0_5.blk t).view.emb (ix3 0 f d) = (ix3 (expertOf t) (unitOf (chunkOf t) f) d : S8x4096x1024.Idx) := by
    funext a
    fin_cases a <;> refine Fin.ext ?_ <;> blk_simp [h0, h1, h2] <;> simp [expertOf, chunkOf, unitOf, Nat.mul_comm]
  blk_simp [iblk]
  rw [e]
  exact congrFun (V_main_arg5 m c) _

/-- The second bias's block: the point's expert's whole row. -/
theorem block6 (t : Fin cfg0.N) (d : Fin 1024) :
    iblk m c 6 t (ix3 0 0 d) = m ((c : Thread nD τ).loc main_arg6) (ix2 (expertOf t) d) := by
  obtain ⟨-, -, -, -, ⟨h0, h1, h2⟩⟩ := blockNumbers t
  have e : (win0_6.blk t).view.emb (ix3 0 0 d) = (ix3 (expertOf t) 0 d : S8x1x1024.Idx) := by
    funext a
    fin_cases a <;> refine Fin.ext ?_ <;> blk_simp [h0, h1, h2] <;> simp [expertOf]
  blk_simp [iblk]
  rw [e]
  unfold V V0
  after_reads_at

end Cert.KernelIdeal.Moe

end
-- ==== Proof.KernelValue.lean ====
/-
  The kernel's result, element by element: it is the layer of Layer.lean on the arguments.
-/
module

public import proofs.«01_k».proof.Proof.Blocks

@[expose] public section

set_option maxRecDepth 16384

noncomputable section

namespace Cert.KernelIdeal.Moe

open Cert.KernelIdeal Cert.KernelIdeal.Gen Idealize.ShloMosaic Idealize.ShloMosaic.TcCoe Idealize.SL.Sem
open Cert.Routing Cert.Layer

/-- The word of negative infinity denotes −∞. -/
theorem negInf : Ideal.ofBits FTy.f32 0xFF800000#32 = ⊥ := by simp [Ideal.ofBits, Ideal.ieee]

section Router

variable (x : Vec Ideal S2048x1024 .f32) (w : Vec Ideal S1024x8 .f32) (b : Vec Ideal S1x8 .f32) (r : Fin 2048)

/-- The logits of row `r` as the body computes them. -/
def rowLogit (e : Fin 8) : EReal := ∑ d : Fin 1024, x (ix2 r d) * w (ix2 d e) + b (ix2 0 e)

/-- The kernel's probabilities of a token are the softmax of its logits. -/
theorem probs_row (e : Fin 8) : k0_pay3 x w b (ix2 r e) = probs (rowLogit x w b r) e := by
  pointwise [k0_pay3]
  rw [negInf]
  rfl

/-- The kernel's first maximum of a token is its greatest probability. -/
theorem best_row : k0_pay4 x w b (ix2 r 0) = greatest (probs (rowLogit x w b r)) := by
  pointwise [k0_pay4]
  simp only [negInf, probs_row]
  rfl

/-- The kernel's first position of a token is the first position of its greatest probability. -/
theorem first_row : k0_pay5 x w b (ix2 r 0) = firstGreatest (probs (rowLogit x w b r)) := by
  pointwise [k0_pay5]
  simp only [probs_row, best_row]
  rfl

/-- The kernel's second list of a token is its probabilities with the first choice struck out. -/
theorem struck_row (e : Fin 8) : k0_pay6 x w b (ix2 r e) = struck (probs (rowLogit x w b r)) e := by
  pointwise [k0_pay6]
  simp only [negInf, probs_row, first_row]
  rfl

/-- The kernel's second maximum of a token is the greatest probability that is left. -/
theorem next_row : k0_pay7 x w b (ix2 r 0) = greatest (struck (probs (rowLogit x w b r))) := by
  pointwise [k0_pay7]
  simp only [negInf, struck_row]
  rfl

/-- The kernel's second position of a token is the first position of the greatest probability that is left. -/
theorem second_row (e : Fin 8) : k0_pay12 x w b (ix2 r e) = firstGreatest (struck (probs (rowLogit x w b r))) := by
  pointwise [k0_pay12]
  simp only [struck_row, next_row]
  rfl

/-- The routing weights of row `r` are the kernel's weights of the softmax of its logits. -/
theorem weights_row (e : Fin 8) : weights x w b (ix2 r e) = weight (probs (rowLogit x w b r)) e := by
  pointwise [weights, k0_pay13, k0_pay9, k0_pay10, k0_pay8, k0_pay11]
  simp only [best_row, first_row, next_row, second_row]
  rfl

end Router

/-- The sum over the eight columns that keeps only the column of expert `e` is that column's entry. -/
theorem pick_column (e : Fin 8) (g : Fin 8 → EReal) :
    ∑ k : Fin 8, Scalar.select (IntOp.cmpi CmpIPredicate.eq (BitVec.ofNat 32 k.val) (BitVec.ofNat 32 e.val)) (g k) 0 = g e := by
  simp only [select_word, Finset.sum_ite_eq', Finset.mem_univ, if_true]

/-- A point adds the second bias exactly when its chunk is the first. -/
theorem select_chunk (j : Fin 8) (u v : EReal) :
    Scalar.select (Scalar.cmpi CmpIPredicate.eq (BitVec.ofNat 32 j.val) 0#32) u v = if j = 0 then u else v :=
  select_word j 0 u v

variable (m : (b : Loc nD τ sig) → Buf (Elt Ideal) b) (c : Dev nD)

/-- The arguments in memory, by coordinates. -/
def params : Params where
  x r d := m ((c : Thread nD τ).loc main_arg0) (ix3 0 r d)
  wr d e := m ((c : Thread nD τ).loc main_arg1) (ix2 d e)
  br e := m ((c : Thread nD τ).loc main_arg2) (ix1 e)
  w1 e d f := m ((c : Thread nD τ).loc main_arg3) (ix3 e d f)
  b1 e f := m ((c : Thread nD τ).loc main_arg4) (ix2 e f)
  w2 e f d := m ((c : Thread nD τ).loc main_arg5) (ix3 e f d)
  b2 e d := m ((c : Thread nD τ).loc main_arg6) (ix2 e d)

/-- The scratch buffer holds every token's routing weights. -/
theorem gate_apply (r : Fin 2048) (e : Fin 8) : gate m c (ix2 r e) = share (params m c) r e := by
  unfold gate
  rw [weights_row]
  have : rowLogit (iblk m c 0 (⟨0, lt_of_lt_of_eq (by decide) N_0.symm⟩ : Fin cfg0.N)) (iblk m c 1 (⟨0, lt_of_lt_of_eq (by decide) N_0.symm⟩ : Fin cfg0.N))
      (iblk m c 2 (⟨0, lt_of_lt_of_eq (by decide) N_0.symm⟩ : Fin cfg0.N)) r = logit (params m c) r := by
    funext e
    unfold rowLogit
    simp only [block0, block1, block2]
    rfl
  rw [this]
  rfl

/-- The contribution of a point: its chunk of its expert, with the bias if the chunk is the first, scaled by the weight. -/
theorem term_apply (t : Fin cfg0.N) (r : Fin 2048) (d : Fin 1024) :
    term m c t (ix2 r d)
      = (if chunkOf t = 0 then chunk (params m c) r (expertOf t) (chunkOf t) d + (params m c).b2 (expertOf t) d
          else chunk (params m c) r (expertOf t) (chunkOf t) d) * share (params m c) r (expertOf t) := by
  obtain ⟨h0, h1⟩ := gridCoords t
  have e0 : (grid0.coords t 0).val = (expertOf t).val := h0
  have e1 : (grid0.coords t 1).val = (chunkOf t).val := h1
  unfold term
  pointwise [contribution, k0_pay1, k0_pay14, k0_pay15]
  rw [e0, e1, pick_column, select_chunk, gate_apply]
  simp only [block0, block3, block4, block5, block6]
  rfl

/-- The running sum, at an element, is the sum of the contributions there. -/
theorem running_apply (r : Fin 2048) (d : Fin 1024) : ∀ (n : ℕ) (h : n < cfg0.N),
    running m c n h (ix2 r d) = ∑ k : Fin (n + 1), term m c ⟨k.val, lt_of_le_of_lt (Nat.lt_succ_iff.mp k.isLt) h⟩ (ix2 r d)
  | 0, h => by
    rw [Fin.sum_univ_one]
    rfl
  | n + 1, h => by
    rw [Fin.sum_univ_castSucc]
    show running m c n _ (ix2 r d) + term m c ⟨n + 1, h⟩ (ix2 r d) = _
    rw [running_apply r d n]
    rfl

/-- The kernel's result array is the layer. -/
theorem total_apply (r : Fin 2048) (d : Fin 1024) : total m c (ix2 r d) = layer (params m c) r d := by
  rw [layer_eq_chunks]
  refine (running_apply m c r d 63 (lt_of_lt_of_eq (by decide) N_0.symm)).trans ?_
  refine (Fin.sum_univ_tiles (M := EReal) 8 8 rfl _).trans ?_
  refine Finset.sum_congr rfl fun e _ => Finset.sum_congr rfl fun j _ => ?_
  rw [term_apply]
  have he : expertOf ⟨e.val * 8 + j.val, lt_of_lt_of_eq (by have h := e.isLt; have h2 := j.isLt; omega) N_0.symm⟩ = e :=
    Fin.ext (by show (e.val * 8 + j.val) / 8 = e.val; have h := j.isLt; omega)
  have hj : chunkOf ⟨e.val * 8 + j.val, lt_of_lt_of_eq (by have h := e.isLt; have h2 := j.isLt; omega) N_0.symm⟩ = j :=
    Fin.ext (by show (e.val * 8 + j.val) % 8 = j.val; have h := j.isLt; omega)
  rw [he, hj]

end Cert.KernelIdeal.Moe

end
-- ==== Proof.ReferenceValue.lean ====
/-
  The reference's result, element by element: it is the layer of Layer.lean on the arguments.
-/
module

public import proofs.«01_k».proof.Proof.Layer
public import proofs.«01_k».proof.Proof.Gen.ReferenceIdeal.Run
public import Idealize.ShloMosaic.Lib.Tactic
public import Idealize.ShloMosaic.Lib.Tactic.CleanTypes

@[expose] public section

set_option maxRecDepth 16384

noncomputable section

namespace Cert.ReferenceIdeal.Value

open Cert.ReferenceIdeal Idealize.ShloMosaic Idealize.ShloMosaic.TcCoe Idealize.SL.Sem
open Cert.Routing Cert.Layer

/-- The word of negative infinity denotes −∞. -/
theorem negInf : Ideal.ofBits FTy.f32 0xFF800000#32 = ⊥ := by simp [Ideal.ofBits, Ideal.ieee]

/-- The position words of the two greatest entries of a row. -/
theorem topK_words (p : FVec Ideal S1x2048x8 .f32) (r : Fin 2048) (k : Fin 2) :
    (Host.topK S1x2048x2 2 (FloatOps.cmpfTotal CmpDirection.gt) p Gen.sliceFits_S1x2048x8_S1x2048x2).2 (ix3 0 r k)
      = BitVec.ofNat 32 (sortedFrom (before fun e => p (ix3 0 r e)) (k.castLE (by decide))).val := by
  unfold Host.topK Host.sort2
  simp only [show 2 < S1x2048x8.rank from by decide, dite_true]
  pointwise [Shape.Idx.along]
  have u : ∀ (a : Fin 8) (q : Fin 8), Function.update (ix3 0 r a : S1x2048x8.Idx) 2 q = ix3 0 r q := fun a q => by
    funext i; fin_cases i <;> rfl
  simp only [u]
  rfl

/-- The two greatest entries of a row. -/
theorem topK_values (p : FVec Ideal S1x2048x8 .f32) (r : Fin 2048) (k : Fin 2) :
    (Host.topK S1x2048x2 2 (FloatOps.cmpfTotal CmpDirection.gt) p Gen.sliceFits_S1x2048x8_S1x2048x2).1 (ix3 0 r k)
      = p (ix3 0 r (sortedFrom (before fun e => p (ix3 0 r e)) (k.castLE (by decide)))) := by
  unfold Host.topK Host.sort2
  simp only [show 2 < S1x2048x8.rank from by decide, dite_true]
  pointwise [Shape.Idx.along]
  have u : ∀ (a : Fin 8) (q : Fin 8), Function.update (ix3 0 r a : S1x2048x8.Idx) 2 q = ix3 0 r q := fun a q => by
    funext i; fin_cases i <;> rfl
  simp only [u]
  rfl

variable (V : Valuation τ sig (Elt Ideal))

/-- The arguments as the program's buffers hold them, by coordinates. -/
def params : Params where
  x r d := V (Proc.devRef .tc main_arg0) (ix3 0 r d)
  wr d e := V (Proc.devRef .tc main_arg1) (ix2 d e)
  br e := V (Proc.devRef .tc main_arg2) (ix1 e)
  w1 e d f := V (Proc.devRef .tc main_arg3) (ix3 e d f)
  b1 e f := V (Proc.devRef .tc main_arg4) (ix2 e f)
  w2 e f d := V (Proc.devRef .tc main_arg5) (ix3 e f d)
  b2 e d := V (Proc.devRef .tc main_arg6) (ix2 e d)

variable (r : Fin 2048)

/-- The reference's logits are the layer's. -/
theorem logits_apply (e : Fin 8) : (res_main_v3 V (ix3 0 r e) : EReal) = logit (params V) r e := by
  unfold res_main_v3
  clean_types
  pointwise
  rfl

/-- The reference's exponentials are those of the logits less the greatest logit of the token. -/
theorem exps_apply (e : Fin 8) :
    (res_main_v10 V (ix3 0 r e) : EReal) = Ideal.exp (logit (params V) r e - greatest (logit (params V) r)) := by
  unfold res_main_v10
  clean_types
  pointwise
  simp only [negInf, logits_apply, bot_sup_eq]
  rfl

/-- The reference's probabilities of a token are the softmax of its logits. -/
theorem probs_apply (e : Fin 8) : (res_main_v14 V (ix3 0 r e) : EReal) = probs (logit (params V) r) e := by
  unfold res_main_v14
  clean_types
  pointwise
  simp only [exps_apply]
  rfl

/-- The reference's table of weights holds every token's routing weights. -/
theorem combine_apply (e : Fin 8) : (res_main_v26 V (ix2 r e) : EReal) = share (params V) r e := by
  unfold share
  rw [← refWeight_eq]
  unfold res_main_v26 res_main_values
  clean_types
  pointwise
  simp only [topK_words, topK_values, probs_apply]
  rfl

/-- The reference's flattened tokens are the layer's. -/
theorem tokens_apply (d : Fin 1024) : (res_main_v19 V (ix2 r d) : EReal) = (params V).x r d := by
  unfold res_main_v19
  clean_types
  pointwise
  rfl

/-- After the first four experts. -/
theorem firstHalf_apply (d : Fin 1024) :
    (res_main_v111 V (ix2 r d) : EReal)
      = expert (params V) r 0 d * share (params V) r 0 + expert (params V) r 1 d * share (params V) r 1
        + expert (params V) r 2 d * share (params V) r 2 + expert (params V) r 3 d * share (params V) r 3 := by
  unfold res_main_v111
  clean_types
  pointwise
  simp only [combine_apply, tokens_apply]
  rfl

/-- The reference's result, before its last reshape, is the layer. -/
theorem result_apply (d : Fin 1024) : (res_main_v195 V (ix2 r d) : EReal) = layer (params V) r d := by
  unfold res_main_v195 layer
  clean_types
  pointwise
  simp only [combine_apply, tokens_apply, firstHalf_apply, Fin.sum_univ_eight]
  rfl

end Cert.ReferenceIdeal.Value

end
-- ==== Proof.lean ====
/-
  The certificate's claim. The three frames and the sanctioned idealization come from the generated runs; the algebraic
  claim puts the kernel's result and the reference's side by side: both are the layer of Proof/Layer.lean on the same
  arguments, reshaped alike.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Lib.Claim
public import Idealize.ShloMosaic.Adequacy
public import Idealize.ShloMosaic.Init

@[expose] public section

noncomputable section

namespace Cert.Proof

open Idealize.ShloMosaic Idealize.SL.Sem

/-- From memories that agree on the arguments, the kernel's result array and the reference's are one array. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.ReferenceIdeal.Value.params (StableHlo.launchContents m' c) = Cert.KernelIdeal.Moe.params m c) :
    (Cert.KernelIdeal.Moe.total m c : Cert.KernelIdeal.S2048x1024.Idx → EReal)
      = Cert.ReferenceIdeal.Value.res_main_v195 (F := Ideal) (StableHlo.launchContents m' c) := by
  funext j
  rw [eq_ix2 j]
  refine (Cert.KernelIdeal.Moe.total_apply m c (j 0) (j 1)).trans ?_
  rw [← h]
  exact (Cert.ReferenceIdeal.Value.result_apply (StableHlo.launchContents m' c) (j 0) (j 1)).symm

/-- The kernel as written runs, leaves its arguments as they were, and ends with every counter at zero. -/
theorem frame_kernel : Cert.quiescent_Kernel := fun m ρ _ => Cert.Kernel.Gen.frame m ρ

/-- The idealized kernel runs, leaves its arguments as they were, and ends with every counter at zero. -/
theorem frame_kernelIdeal : Cert.quiescent_KernelIdeal := fun m ρ _ => Cert.KernelIdeal.Gen.frame m ρ

/-- The reference runs, leaves its arguments as they were, and has no counters. -/
theorem frame_reference : Cert.quiescent_ReferenceIdeal := fun m ρ _ =>
  θ_run_mono (Cert.ReferenceIdeal.Value.run m ρ) fun r h => ⟨fun c => (h c).2, sem_eq_zero_of_no_sems rfl _⟩

/-- The idealized kernel and the reference end with equal results, whatever the arguments hold. -/
theorem values_equal : Cert.algebraic_KernelIdeal_ReferenceIdeal := by
  intro m g m' g' _ hagree
  refine ⟨fun c => shapeCast _ (Cert.KernelIdeal.Moe.total m c) Cert.KernelIdeal.Gen.shapeCasts_S2048x1024_S1x2048x1024,
    Cert.KernelIdeal.Moe.run_total m g, θ_run_mono (Cert.ReferenceIdeal.Value.run m' g') fun r h c => ⟨?_, (h c).2⟩⟩
  refine (h c).1.trans ?_
  have hp : Cert.ReferenceIdeal.Value.params (StableHlo.launchContents m' c) = Cert.KernelIdeal.Moe.params m c := by
    obtain ⟨h0, h1, h2, h3, h4, h5, h6⟩ := hagree c
    unfold Cert.ReferenceIdeal.Value.params Cert.KernelIdeal.Moe.params
    rw [← h0, ← h1, ← h2, ← h3, ← h4, ← h5, ← h6]
  have e := results_agree m m' c hp
  exact congrArg (fun x : Cert.KernelIdeal.S2048x1024.Idx → EReal =>
    shapeCast Cert.KernelIdeal.S1x2048x1024 x Cert.KernelIdeal.Gen.shapeCasts_S2048x1024_S1x2048x1024) e.symm

/-- The whole certificate: three frames, the sanctioned idealization and the equality of the values. -/
theorem claim : Cert.Claim :=
  ⟨Cert.Kernel.Gen.facts, Cert.KernelIdeal.Gen.facts, Cert.ReferenceIdeal.Gen.facts,
    frame_kernel, frame_kernelIdeal, frame_reference, trivial, values_equal⟩

end Cert.Proof

end
